-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S1 : Shape := ⟨1, ![1]⟩
abbrev S16384x2048 : Shape := ⟨2, ![16384, 2048]⟩
abbrev S3x2560x2048 : Shape := ⟨3, ![3, 2560, 2048]⟩
abbrev S3x2 : Shape := ⟨2, ![3, 2]⟩
abbrev S1x1 : Shape := ⟨2, ![1, 1]⟩
abbrev S_ : Shape := ⟨0, ![]⟩
abbrev S1x512x2048 : Shape := ⟨3, ![1, 512, 2048]⟩
abbrev S512x2048 : Shape := ⟨2, ![512, 2048]⟩
abbrev S1x1280x2048 : Shape := ⟨3, ![1, 1280, 2048]⟩
abbrev S1280x2048 : Shape := ⟨2, ![1280, 2048]⟩
abbrev S1x1152x2048 : Shape := ⟨3, ![1, 1152, 2048]⟩
abbrev S1152x2048 : Shape := ⟨2, ![1152, 2048]⟩
abbrev S1x128x2048 : Shape := ⟨3, ![1, 128, 2048]⟩
abbrev S128x2048 : Shape := ⟨2, ![128, 2048]⟩

abbrev nBuf : Space → Nat
  | .hbm => 5
  | .vmem => 1
  | .smem => 0
  | _ => 0

abbrev bufTy : (tb : Table) → Fin (tcTables nBuf tb) → BufTy
  | .hbm, ⟨0, _⟩ => ⟨S4x4096x2048, .f32⟩
  | .hbm, ⟨1, _⟩ => ⟨S1, .f32⟩
  | .hbm, ⟨2, _⟩ => ⟨S16384x2048, .f32⟩
  | .hbm, ⟨3, _⟩ => ⟨S16384x2048, .f32⟩
  | .hbm, ⟨4, _⟩ => ⟨S4x4096x2048, .f32⟩
  | .local _ .vmem, ⟨0, _⟩ => ⟨S3x2560x2048, .f32⟩
  | _, _ => ⟨S4x4096x2048, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_scratch0 : Ref sig .tc := ⟨.vmem, 0, rfl⟩

abbrev nD : Nat := 1
abbrev τ : Topo := Topo.v7x

variable {F : FTy → Type} [FloatOps F]

abbrev grid0 : Pipeline.Grid := .none
-- ==== ReferenceIdeal.lean ====
abbrev S4x4096x2048 : Shape := ⟨3, ![4, 4096, 2048]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩

abbrev nD : Nat := 1
abbrev τ : Topo := Topo.v7x

variable {F : FTy → Type} [FloatOps F]
-- ==== Proof.Windows.lean ====
/-
  Facts about copies that go through windows of a buffer, for any signature of buffers: what a window reads after another window
  was written, and when rows copied piece by piece make up a whole array.
-/
module

public import Idealize.ShloMosaic.Lib.Writes
public import Idealize.ShloMosaic.Lib.Transfers

@[expose] public section

noncomputable section

namespace Cert.Windows

open Idealize.ShloMosaic

variable {sig : RefSig} {κ : Kind} {sp : Space} {s s₁ s₂ : Shape} {e : EltTy} {Val : EltTy → Type}

/-- A window of a buffer reads the same before and after a write through another window that shares no element with it; both
    windows are rectangles of one view, indexed by any shape of as many elements (the rectangle's own with its axes of length one
    dropped, say). -/
theorem read_window_of_disjoint (v : View sig κ sp s e) {r₁ r₂ : Rect s} (h₁ : s₁.numel = r₁.shape.numel)
    (h₂ : s₂.numel = r₂.shape.numel) (f : v.ty.Contents Val) (p : s₂.Idx → Val e) (hd : Disjoint r₁.set r₂.set) :
    View.read Val ((v.slice r₁).reshape s₁ h₁) (View.write Val ((v.slice r₂).reshape s₂ h₂) f p Finset.univ)
      = View.read Val ((v.slice r₁).reshape s₁ h₁) f :=
  View.read_congr fun i hi => View.write_of_not_mem _ _ _ fun hw => by
    have h1 : i ∈ (v.slice r₁).set := by rw [← View.set_reshape (v.slice r₁) h₁]; exact hi
    have h2 : i ∈ (v.slice r₂).set := by rw [← View.set_reshape (v.slice r₂) h₂]; exact hw
    rw [View.set_slice] at h1 h2
    exact Finset.disjoint_left.mp ((Finset.disjoint_map _).mpr hd) h1 h2

/-- A row that lies at or after a block of whole rows' first one, and not in the block, lies after the block's last. -/
theorem row_after {d : Fin 2 → ℕ} {y : (⟨2, d⟩ : Shape).Idx} {o n : ℕ} {size : Fin 2 → ℕ} {inb}
    (hy : y ∉ (Rect.unit (s := ⟨2, d⟩) ![o, 0] size inb).set) (hn : size 0 = n) (hw : size 1 = d 1) (ho : o ≤ (y 0).val) :
    o + n ≤ (y 0).val := by
  by_contra hc
  refine hy (Rect.mem_set_unit.mpr (Fin.forall_fin_two.mpr ⟨⟨ho, ?_⟩, ⟨Nat.zero_le _, ?_⟩⟩))
  · show (y 0).val < o + size 0
    omega
  · have := (y 1).isLt
    show (y 1).val < 0 + size 1
    rw [hw, Nat.zero_add]; exact this

end Cert.Windows

end
-- ==== Proof.Body.lean ====
/-
  The kernel program's run: at the compiled mesh, from any memory with zero counters, @main terminates without a fault, leaves its
  arguments as they were and every counter at zero, and its result holds argument 0's contents.

  The body (`kernelRun`) is the whole chain of 32 transfers, run once: each half of each chunk goes from the flattened argument into a
  half of one of three rotating buffers and from there into the same rows of the flattened result. What a transfer out of a buffer
  carries is what the last transfer into that half brought, since every transfer issued in between writes another half or another
  buffer; and the sixteen pieces carried out tile the 16384 rows. The launch is the library's for a pallas_call that stages no
  window, waits for its own transfers and stands between host operations, here the two reshapes.
-/
module

public import proofs.«01_k».proof.Proof.Gen.Kernel.Frame
public import proofs.«01_k».proof.Proof.Gen.Kernel.Skeleton
public import Idealize.ShloMosaic.Lib.Pipeline.FrameSuffixV
public import Idealize.ShloMosaic.Lib.Pipeline.Value
public import Idealize.ShloMosaic.Lib.Tactic
public import Idealize.ShloMosaic.Lib.Transfers
public import proofs.«01_k».proof.Proof.Windows

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Windows

variable {F : FTy → Type} [FloatOps F]

local notation "𝕄" => MT nD τ sig Unit (Elt F) ℕ (Pipeline.UD sig nD τ) ℕ

/-- The flattened argument, left in HBM. -/
abbrev xM : Memref sig .tc .hbm S16384x2048 .f32 := Memref.whole main_v0
/-- The flat result, left in HBM. -/
abbrev oM : Memref sig .tc .hbm S16384x2048 .f32 := Memref.whole main_v1
/-- The three rotating buffers, in VMEM. -/
abbrev bM : Memref sig .tc .vmem S3x2560x2048 .f32 := Memref.whole cc0_scratch0
/-- Core `c` holds all of `M`'s buffer, at contents `f`. -/
abbrev pt (c : Dev nD) {sp : Space} {S : Shape} {e : EltTy} (M : Memref sig .tc sp S e)
    (f : Buf (Elt F) (M.view.loc (c : Thread nD τ))) : sProp 𝕄 :=
  M.view.loc (c : Thread nD τ) ↦{fullShare} f
/-- The kernel's twelve transfer counters, all at zero. -/
abbrev cells (c : Dev nD) : sProp 𝕄 :=
  iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0)

set_option sl_exec.dmaWindow true in
set_option sl_exec.dmaWindowLent true in
/-- The body's triple, for any continuation: from the flattened argument at `fx`, the flattened result and the rotating buffers at
    anything, every counter at zero and the core owing nothing, the kernel runs to its return, all its transfers issued and waited
    for, and hands back the argument as it was, the result reading as the argument reads, and the counters at zero. -/
theorem kernelRun (c : Dev nD) (fx : Buf (Elt F) (xM.view.loc (c : Thread nD τ))) (fo : Buf (Elt F) (oM.view.loc (c : Thread nD τ)))
    (fb : Buf (Elt F) (bM.view.loc (c : Thread nD τ))) (W : Waits sig Unit) (K : PUnit → sProp 𝕄) :
    iprop(pt c xM fx ∗ pt c oM fo ∗ pt c bM fb ∗ cells (F := F) c ∗ owes (c : Thread nD τ) 0 W
        ∗ (iprop(pt c xM fx
              ∗ (∃ fo' : Buf (Elt F) (oM.view.loc (c : Thread nD τ)),
                  ⌜oM.view.read (Elt F) fo' = xM.view.read (Elt F) fx⌝ ∗ pt c oM fo')
              ∗ (∃ fb', pt c bM fb') ∗ cells (F := F) c ∗ ∃ W', owes (c : Thread nD τ) 0 W') -∗ K ⟨⟩))
      ⊢ wp frame (wpE (defs₀ (F := F)) Variants.none c none) Set.univ
          (cc0__copy_kernel xM (Memref.isWhole_whole _) oM (Memref.isWhole_whole _) bM (Memref.isWhole_whole _) cc0_scratch1 cc0_scratch2) K := by
  simp only [cc0__copy_kernel_eq_skeleton]; unfold cc0__copy_kernel_skel
  iintro ⟨Hx, Ho, Hb, ⟨Hq0, Hq1, Hq2, Hq3, Hq4, Hq5, Hq6, Hq7, Hq8, Hq9, Hq10, Hq11⟩, HW, Hk⟩
  sl_exec
  sl_step
  iapply Hk
  isplitl [Hx]; · iexact Hx
  isplitl [Ho]
  · iexists _; isplitr; swap; · iexact Ho
    ipureintro
    funext y
    refine View.read_writes_apply_of_pieces oM.view fo (xM.view.read (Elt F) fx) _ ?_ y ?_
    · simp only [List.forall_mem_cons]
      refine ⟨?_, ?_, ?_, ?_, ?_, ?_, ?_, ?_, ?_, ?_, ?_, ?_, ?_, ?_, ?_, ?_, fun _ h => absurd h List.not_mem_nil⟩
      all_goals
        intro x
        delta kernelRun.sl.dma0_31 kernelRun.sl.dma0_30 kernelRun.sl.dma0_29 kernelRun.sl.dma0_28 kernelRun.sl.dma0_25 kernelRun.sl.dma0_24 kernelRun.sl.dma0_21 kernelRun.sl.dma0_20 kernelRun.sl.dma0_17 kernelRun.sl.dma0_16 kernelRun.sl.dma0_13 kernelRun.sl.dma0_12 kernelRun.sl.dma0_9 kernelRun.sl.dma0_8 kernelRun.sl.dma0_5 kernelRun.sl.dma0_4
        rw [ReadAs.apply_same]
        dsimp only [Memref.view_squeeze, Memref.view_slice]
        repeat first
          | rw [View.read_write_univ]
          | (rw [read_window_of_disjoint]; swap
             first | exact Rect.unit_disjoint 0 (by decide) | exact Rect.unit_disjoint 1 (by decide))
        rfl
    · by_contra hn
      simp only [not_exists, not_and, List.forall_mem_cons] at hn
      obtain ⟨h31, h30, h29, h28, h25, h24, h21, h20, h17, h16, h13, h12, h9, h8, h5, h4, -⟩ := hn
      have hrow : ∀ {o n : ℕ} {inb}, y ∉ (Rect.unit (s := S16384x2048) ![o, 0] ![n, 2048] inb).set → o ≤ (y 0).val → o + n ≤ (y 0).val :=
        fun hy ho => row_after hy rfl rfl ho
      have hlast := hrow h31 <| hrow h30 <| hrow h29 <| hrow h28 <| hrow h25 <| hrow h24 <| hrow h21 <| hrow h20 <| hrow h17 <| hrow h16 <| hrow h13 <| hrow h12 <| hrow h9 <| hrow h8 <| hrow h5 <| hrow h4 <| Nat.zero_le _
      have := (y 0).isLt
      exact absurd this (Nat.not_lt.mpr hlast)
  isplitl [Hb]; · iexists _; iexact Hb
  isplitr [HW]
  · iframe Hq0 Hq1 Hq2 Hq3 Hq4 Hq5 Hq6 Hq7 Hq8 Hq9 Hq10 Hq11
  iexists _; iexact HW

/-! ## The invariant and the body obligation -/

/-- The kernel's own transfer counters. -/
abbrev osem0 : Fin 12 → SemLoc sig :=
  fun j => (![SemLoc.dma 0, SemLoc.dma 1, SemLoc.dma 2, SemLoc.dma 3, SemLoc.dma 4, SemLoc.dma 5,
    SemLoc.dma 6, SemLoc.dma 7, SemLoc.dma 8, SemLoc.dma 9, SemLoc.dma 10, SemLoc.dma 11] : Fin 12 → SemLoc sig) j
/-- They are scoped counters, distinct, and no window's. -/
theorem ownSemFacts0 : Pipeline.OwnSemFacts (cfg0.spec) osem0 := by decide
/-- Held at zero one by one, as the library lists them, they are `cells`. -/
theorem ownSems0_cells (c : Dev nD) :
    (Pipeline.ownSems0 (Ix := Unit) (Name := ℕ) (U := Pipeline.UD sig nD τ) (Lvl := ℕ) (Val := Elt F) (τ := τ) osem0 c : sProp 𝕄)
      = cells (F := F) c := by
  rw [Pipeline.ownSems0_eq_of_list c osem0 [0, 1, 2, 3, 4, 5, 6, 7, 8, 9, 10, 11] (by decide) (by decide)]; rfl

variable (m : (ℓ : Loc nD τ sig) → Buf (Elt F) ℓ) (ρ : Dev nD → PrngReg)

/-- The buffer the kernel only reads: the flat argument. -/
def H0 : Finset (Ref sig .tc) := {main_v0}
/-- The buffer the kernel writes: the flat result. -/
def R0 : Finset (Ref sig .tc) := {main_v1}
/-- It lies outside the kernel's scope, and no window stages it. -/
theorem H0_sub : H0 ⊆ Pipeline.restRefs sig (cfg0.spec) := by decide
/-- So does the flat result, which is another buffer. -/
theorem R0_sub : R0 ⊆ Pipeline.restRefs sig (cfg0.spec) \ H0 := by decide

/-- The contents when the region ends: those at its entry (`Gen.V0`), with the flat result holding the flat argument. -/
def V1 (c : Dev nD) : Valuation τ sig (Elt F) := Function.update (V0 m c) (Proc.devRef .tc main_v1) (V m c main_v0)
/-- The same read at a TensorCore reference. -/
abbrev G (c : Dev nD) (b : Ref sig .tc) : Buf (Elt F) ((c : Thread nD τ).loc b) := V1 m c (Proc.devRef .tc b)

/-- At the region's end the flat result holds what the flat argument held at its start. -/
theorem G_main_v1 (c : Dev nD) : G m c main_v1 = V m c main_v0 := Function.update_self ..

/-- The invariant between the body's ends, conjunct by conjunct, the written buffer at contents `X`. -/
theorem Phi_eq (X : (c : Dev nD) → (b : Ref sig .tc) → Buf (Elt F) ((c : Thread nD τ).loc b)) (c : Dev nD) :
    (Pipeline.ΦDRV osem0 (cfg0.spec) H0 R0 (V m) X c : sProp 𝕄)
      = iprop((∃ fb, pt c bM fb) ∗ cells (F := F) c ∗ pt c xM (V m c main_v0) ∗ pt c oM (X c main_v1)) := by
  unfold Pipeline.ΦDRV
  rw [scopedRest0_eq, ownSems0_cells, BI.bigSep_eq_bigSepL_of_eq (S := H0) [main_v0] (by decide) (by decide),
    BI.bigSep_eq_bigSepL_of_eq (S := R0) [main_v1] (by decide) (by decide)]
  rfl

/-- The proof data on core `c`: no window; before the body the flat result is as the region finds it, after the body it holds the
    flat argument; nothing owed. -/
def dats (_ : Fin 1) (c : Dev nD) : Dat τ (Elt F) Unit ℕ (Pipeline.UD sig nD τ) ℕ cfg0 c where
  A w := V m c (Pipeline.arrRef (cfg0.spec) w)
  after w t := w.elim0
  Φ t := Pipeline.ΦDRV osem0 (cfg0.spec) H0 R0 (V m) (if t.val = 0 then V m else G m) c
  q _ := fullShare
  owed _ := 0

/-- The body at the region's one point. -/
theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t)
          (fun _ => iprop((dats m 0 c).Φ t.succ ∗ (dats m 0 c).owesAt () t.succ)) := by
  have ht := fin_N0 t
  subst ht
  rw [show (dats m 0 c).owesAt () (Fin.succ t0_0) = (dats m 0 c).owesAt () (Fin.castSucc t0_0) from rfl,
    show (dats m 0 c).Φ (Fin.castSucc t0_0) = Pipeline.ΦDRV osem0 (cfg0.spec) H0 R0 (V m) (V m) c from rfl,
    show (dats m 0 c).Φ (Fin.succ t0_0) = Pipeline.ΦDRV osem0 (cfg0.spec) H0 R0 (V m) (G m) c from rfl, Phi_eq, Phi_eq, G_main_v1]
  unfold Dat.owesAt Pipeline.owesWithin
  rw [show (dats m 0 c).owed (Fin.castSucc t0_0) = 0 from rfl]
  iintro ⟨⟨⟨%fb, Hb⟩, Hq, Hx, Ho⟩, ⟨%W, %hW, HW⟩⟩
  iapply (kernelRun c (V m c main_v0) (V m c main_v1) fb W _)
  isplitl [Hx]; · iexact Hx
  isplitl [Ho]; · iexact Ho
  isplitl [Hb]; · iexact Hb
  isplitl [Hq]; · iexact Hq
  isplitl [HW]; · iexact HW
  iintro ⟨Hx, ⟨%fo', %hfo, Ho⟩, Hb, Hq, ⟨%W', HW⟩⟩
  have hfo : fo' = V m c main_v0 := hfo
  subst hfo
  isplitr [HW]
  · isplitl [Hb]; · iexact Hb
    isplitl [Hq]; · iexact Hq
    isplitl [Hx]; · iexact Hx
    iexact Ho
  iexists W'; isplitr; · ipureintro; exact fun _ _ => Or.inl trivial
  iexact HW

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation: the triple, beside no window. -/
theorem body_obligation (c : Dev nD) :
    BodyObligation (dats (F := F) m 0 c) (defs₀ (F := F)) Variants.none () Set.univ := fun t => by
  rw [defs₀_row]
  refine triple_restated (sound_body m c t) rfl ?_ fun _ => ?_
  · iintro ⟨HΦ, HO, -⟩
    isplitl [HΦ]; · iexact HΦ
    iexact HO
  · rw [Finset.univ_eq_empty, BI.bigSep_empty]
    iintro ⟨HΦ, HO⟩
    isplitl [HΦ]; · iexact HΦ
    isplitl [HO]; · iexact HO
    iempintro

/-! ## The launch -/

/-- @main around its region, stated at the algebra the transfer steps run in. -/
theorem hmainD (𝒱₀ : Variants) :
    Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What a buffer holds after the last reshape, the windows' arrays (there is none) and the written buffer put in place. -/
abbrev endsAt (c : Dev nD) (b : Ref sig .tc) : Buf (Elt F) ((c : Thread nD τ).loc b) :=
  StableHlo.after (List.flatten [hostOps1]) (Pipeline.withArrays (cfg0.spec) c (Pipeline.withR (V0 m c) R0 c (G m c))
    fun w => (dats m 0 c).arrAt w cfg0.N) (Proc.devRef .tc b)

set_option backward.isDefEq.respectTransparency.types false in
/-- Every weakly fair execution of @main terminates, nothing faults, every buffer outside the kernel ends at `endsAt`, and every
    counter at zero. -/
theorem run_main :
    θ_run defs (onTc (τ := τ) (main (F := F))) (s₀ m ρ)
      (fun r => (∀ c : Dev nD, ∀ b ∈ Pipeline.restRefs sig (cfg0.spec), r.2.mem ((c : Thread nD τ).loc b) = endsAt m c b)
        ∧ r.2.sem = fun _ => 0) :=
  Pipeline.θ_run_frame_dmaR_aroundV cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) sfx_sub sfx_fresh sfx_keeps (G m) (hmain := hmainD m Variants.none)
    (hA := fun _ w => w.elim0) (hin := fun _ => .rfl) (hout := fun _ => .rfl)
    (Q' := _) (hQ' := fun _ h => ⟨fun c => (h.1 c).2, h.2⟩)

variable {m}

/-- The last reshape writes the result only, so a buffer that is neither the result nor the flat result ends as the region found it. -/
theorem endsAt_of_ne (c : Dev nD) {b : Ref sig .tc} (h2 : b ≠ main_v2) (h1 : b ∉ R0) : endsAt m c b = V m c b := by
  unfold endsAt
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne h2)),
    Pipeline.withArrays_of_ne _ c _ _ b (fun w => w.elim0), Pipeline.withR_of_not_mem _ _ c _ b h1]

/-- The result holds argument 0's contents: the reshape of the flat result, which holds the flat argument, which is the argument's
    reshape; and a reshape there and back changes nothing. -/
theorem endsAt_main_v2 (c : Dev nD) : endsAt m c main_v2 = m ((c : Thread nD τ).loc main_arg0) := by
  unfold endsAt
  simp only [hostOps1, List.flatten_cons, List.flatten_nil, List.append_nil, StableHlo.after_cons, StableHlo.after_nil]
  rw [StableHlo.reshape_result, Pipeline.withArrays_of_ne _ c _ _ main_v1 (fun w => w.elim0),
    Pipeline.withR_of_mem _ _ c _ main_v1 (by decide), G_main_v1]
  simp only [V, V0, hostOps0, List.flatten_cons, List.flatten_nil, List.append_nil, StableHlo.after_cons, StableHlo.after_nil]
  rw [StableHlo.reshape_result]
  exact shapeCast_shapeCast (s := S4x4096x2048) (t := S16384x2048) (m ((c : Thread nD τ).loc main_arg0)) _ _

/-- The whole claim about one run: @main terminates without a fault, its result holds argument 0's contents, both arguments are as
    they were, and every counter is at zero. -/
theorem run_value (m : (ℓ : Loc nD τ sig) → Buf (Elt F) ℓ) :
    θ_run defs (onTc (τ := τ) (main (F := F))) ⟨m, fun _ => 0, ρ⟩ (fun r => (∀ c : Dev nD,
        r.2.mem ((c : Thread nD τ).loc main_v2) = m ((c : Thread nD τ).loc main_arg0)
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ h => ⟨fun c =>
      ⟨(h.1 c main_v2 (Pipeline.mem_restRefs_of main_v2 (by decide) (by decide))).trans (endsAt_main_v2 c),
        ((h.1 c main_arg0 (Pipeline.mem_restRefs_of main_arg0 (by decide) (by decide))).trans
          (endsAt_of_ne c (by decide) (by decide))).trans (V_main_arg0 m c),
        ((h.1 c main_arg1 (Pipeline.mem_restRefs_of main_arg1 (by decide) (by decide))).trans
          (endsAt_of_ne c (by decide) (by decide))).trans (V_main_arg1 m c)⟩, h.2⟩)
    (run_main m ρ)

end Cert.Kernel.Hand

end
-- ==== Proof.lean ====
/-
  The proof of `Cert.Claim`: the frames of the kernel, of its idealization and of the reference, and the equality of the last two's
  results.

  The kernel copies its argument into its result through three rotating buffers (`Proof/Body.lean`, which runs the kernel once, at
  any value instance); the reference returns its argument. The idealization rewrote no operation, so its printed program is the
  kernel's, definition by definition, and the kernel's run read at exact reals is its run.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Body
public import Idealize.ShloMosaic.Lib.Claim
public import Idealize.ShloMosaic.Lib.StableHlo.RunHlo
public import Idealize.ShloMosaic.Adequacy
public import Idealize.ShloMosaic.Init

@[expose] public section

noncomputable section

namespace Cert.Proof

open Idealize.ShloMosaic Idealize.ShloMosaic.TcCoe Idealize.SL.Sem

/-- The reference, which is no operation at all, ends with the memory it started from, every counter at zero. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
          r.2.mem ((c : Thread Cert.ReferenceIdeal.nD Cert.ReferenceIdeal.τ).loc Cert.ReferenceIdeal.main_arg0)
            = m ((c : Thread Cert.ReferenceIdeal.nD Cert.ReferenceIdeal.τ).loc Cert.ReferenceIdeal.main_arg0)
          ∧ r.2.mem ((c : Thread Cert.ReferenceIdeal.nD Cert.ReferenceIdeal.τ).loc Cert.ReferenceIdeal.main_arg1)
            = m ((c : Thread Cert.ReferenceIdeal.nD Cert.ReferenceIdeal.τ).loc Cert.ReferenceIdeal.main_arg1))
        ∧ r.2.sem = fun _ => 0) := by
  hlo_run
  · exact fun _ => ⟨trivial, trivial⟩
  · exact sem_eq_zero_of_no_sems rfl _

/-- All five claims: the kernel's frame and its idealization's by the kernel's run, the reference's by its own, nothing rewritten
    between kernel and idealization, and the two results equal, each being argument 0's contents. -/
theorem claim : Cert.Claim := by
  refine ⟨Cert.Kernel.Gen.facts, Cert.KernelIdeal.Gen.facts, Cert.ReferenceIdeal.Gen.facts, ?_, ?_, ?_, trivial, ?_⟩
  · intro m g _
    exact θ_run_mono (Cert.Kernel.Hand.run_value (F := Bits) g m) fun _ h => ⟨fun c => (h.1 c).2, h.2⟩
  · intro m g _
    exact θ_run_mono (Cert.Kernel.Hand.run_value (F := Ideal) g m) fun _ h => ⟨fun c => (h.1 c).2, h.2⟩
  · exact fun m g _ => reference_run m g
  · intro m g m' g' _ hagree
    refine ⟨fun c => m ((c : Thread Cert.KernelIdeal.nD Cert.KernelIdeal.τ).loc Cert.KernelIdeal.main_arg0), ?_, ?_⟩
    · exact θ_run_mono (Cert.Kernel.Hand.run_value (F := Ideal) g m) fun _ h c => h.1 c
    · exact θ_run_mono (reference_run m' g') fun _ h c => ⟨(h.1 c).1.trans (hagree c).1, h.1 c⟩

end Cert.Proof

end
